-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets_sorted [hPre_offsets_sorted : Cert.Pre_offsets_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_sorted [hPre_offsets_sorted : Cert.Pre_offsets_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_offsets_sorted [hKernelIdeal : Cert.KernelIdeal.Facts] [hPre_offsets_sorted : Cert.Pre_offsets_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_offsets_sorted [hReferenceIdeal : Cert.ReferenceIdeal.Facts] [hPre_offsets_sorted : Cert.Pre_offsets_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_offsets_sorted [hKernelIdeal : Cert.KernelIdeal.Facts] [hReferenceIdeal : Cert.ReferenceIdeal.Facts] [hPre_offsets_sorted : Cert.Pre_offsets_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_offsets_sorted : Cert.Pre_offsets_sorted.Facts),
    quiescent_Kernel (hKernel := hKernel)
    ∧ quiescent_KernelIdeal (hKernelIdeal := hKernelIdeal)
    ∧ quiescent_KernelIdeal_pre_offsets_sorted (hKernelIdeal := hKernelIdeal) (hPre_offsets_sorted := hPre_offsets_sorted)
    ∧ quiescent_ReferenceIdeal (hReferenceIdeal := hReferenceIdeal)
    ∧ quiescent_ReferenceIdeal_pre_offsets_sorted (hReferenceIdeal := hReferenceIdeal) (hPre_offsets_sorted := hPre_offsets_sorted)
    ∧ preserves_Kernel_KernelIdeal
    ∧ algebraic_KernelIdeal_ReferenceIdeal_pre_offsets_sorted (hKernelIdeal := hKernelIdeal) (hReferenceIdeal := hReferenceIdeal) (hPre_offsets_sorted := hPre_offsets_sorted)
-- ==== Pre_offsets_sorted.lean ====
abbrev S32768x3 : Shape := ⟨2, ![32768, 3]⟩
abbrev S32768x64 : Shape := ⟨2, ![32768, 64]⟩
abbrev S17 : Shape := ⟨1, ![17]⟩
abbrev S67x128 : Shape := ⟨2, ![67, 128]⟩
abbrev S128 : Shape := ⟨1, ![128]⟩
abbrev S128x55 : Shape := ⟨2, ![128, 55]⟩
abbrev S55 : Shape := ⟨1, ![55]⟩
abbrev S1 : Shape := ⟨1, ![1]⟩
abbrev S_ : Shape := ⟨0, ![]⟩
abbrev S16 : Shape := ⟨1, ![16]⟩

class Facts : Prop where
  slices_S17_S1_0 : S17.Slices ![0] S1
  shapeCasts_S1_S_ : S1.ShapeCasts S_
  slices_S17_S16_0 : S17.Slices ![0] S16
  slices_S17_S16_1 : S17.Slices ![1] S16
  reducesTo_S16_S_d0 : S16.ReducesTo [0] S_
  h_S_ : 0 < S_.numel

variable [Facts]

def fn {F : FTy → Type} [FloatOps F] (main_arg0 : FVec F S32768x3 .f32) (main_arg1 : FVec F S32768x64 .f32) (main_arg2 : IVec S17 32) (main_arg3 : FVec F S67x128 .f32) (main_arg4 : FVec F S128 .f32) (main_arg5 : FVec F S128x55 .f32) (main_arg6 : FVec F S55 .f32) : IVec S_ 1 :=
  let main_v0 : IVec S1 32 := (extractStridedSlice S1 ![0] · slices_S17_S1_0) main_arg2
  let main_v1 : IVec S_ 32 := shapeCast S_ main_v0 shapeCasts_S1_S_
  let main_c : IVec S_ 32 := constantI S_ 32 0#32
  let main_v2 : IVec S_ 1 := cmpi .sle main_v1 main_c
  let main_v3 : IVec S16 32 := (extractStridedSlice S16 ![0] · slices_S17_S16_0) main_arg2
  let main_v4 : IVec S16 32 := (extractStridedSlice S16 ![1] · slices_S17_S16_1) main_arg2
  let main_v5 : IVec S16 1 := cmpi .sle main_v3 main_v4
  let main_c_0 : IVec S_ 1 := constantI S_ 1 1#1
  let main_v6 : IVec S_ 1 := (fun x v => Host.reduce IntOp.andi x v reducesTo_S16_S_d0 h_S_) main_v5 main_c_0
  let main_v7 : IVec S_ 1 := andi main_v2 main_v6
  main_v7
-- ==== Kernel.lean ====
abbrev S32768x3 : Shape := ⟨2, ![32768, 3]⟩
abbrev S32768x64 : Shape := ⟨2, ![32768, 64]⟩
abbrev S17 : Shape := ⟨1, ![17]⟩
abbrev S67x128 : Shape := ⟨2, ![67, 128]⟩
abbrev S128 : Shape := ⟨1, ![128]⟩
abbrev S128x55 : Shape := ⟨2, ![128, 55]⟩
abbrev S55 : Shape := ⟨1, ![55]⟩
abbrev S3x32768 : Shape := ⟨2, ![3, 32768]⟩
abbrev S64x32768 : Shape := ⟨2, ![64, 32768]⟩
abbrev S128x67 : Shape := ⟨2, ![128, 67]⟩
abbrev S128x1 : Shape := ⟨2, ![128, 1]⟩
abbrev S1x55 : Shape := ⟨2, ![1, 55]⟩
abbrev S16x55 : Shape := ⟨2, ![16, 55]⟩
abbrev S3x8192 : Shape := ⟨2, ![3, 8192]⟩
abbrev S64x8192 : Shape := ⟨2, ![64, 8192]⟩
abbrev S128x16 : Shape := ⟨2, ![128, 16]⟩
abbrev S128x3 : Shape := ⟨2, ![128, 3]⟩
abbrev S128x64 : Shape := ⟨2, ![128, 64]⟩
abbrev S128x8192 : Shape := ⟨2, ![128, 8192]⟩
abbrev S1x16 : Shape := ⟨2, ![1, 16]⟩
abbrev S1 : Shape := ⟨1, ![1]⟩
abbrev S16x1 : Shape := ⟨2, ![16, 1]⟩
abbrev S1x8192 : Shape := ⟨2, ![1, 8192]⟩
abbrev S16x8192 : Shape := ⟨2, ![16, 8192]⟩
abbrev S8192x16 : Shape := ⟨2, ![8192, 16]⟩

abbrev nBuf : Space → Nat
  | .hbm => 14
  | .vmem => 10
  | .smem => 1
  | _ => 0

abbrev bufTy : (tb : Table) → Fin (tcTables nBuf tb) → BufTy
  | .hbm, ⟨0, _⟩ => ⟨S32768x3, .f32⟩
  | .hbm, ⟨1, _⟩ => ⟨S32768x64, .f32⟩
  | .hbm, ⟨2, _⟩ => ⟨S17, .i32⟩
  | .hbm, ⟨3, _⟩ => ⟨S67x128, .f32⟩
  | .hbm, ⟨4, _⟩ => ⟨S128, .f32⟩
  | .hbm, ⟨5, _⟩ => ⟨S128x55, .f32⟩
  | .hbm, ⟨6, _⟩ => ⟨S55, .f32⟩
  | .hbm, ⟨7, _⟩ => ⟨S3x32768, .f32⟩
  | .hbm, ⟨8, _⟩ => ⟨S64x32768, .f32⟩
  | .hbm, ⟨9, _⟩ => ⟨S128x67, .f32⟩
  | .hbm, ⟨10, _⟩ => ⟨S128x67, .bf16⟩
  | .hbm, ⟨11, _⟩ => ⟨S128x1, .f32⟩
  | .hbm, ⟨12, _⟩ => ⟨S1x55, .f32⟩
  | .hbm, ⟨13, _⟩ => ⟨S16x55, .f32⟩
  | .local _ .vmem, ⟨0, _⟩ => ⟨S3x8192, .f32⟩
  | .local _ .vmem, ⟨1, _⟩ => ⟨S3x8192, .f32⟩
  | .local _ .vmem, ⟨2, _⟩ => ⟨S64x8192, .f32⟩
  | .local _ .vmem, ⟨3, _⟩ => ⟨S64x8192, .f32⟩
  | .local _ .vmem, ⟨4, _⟩ => ⟨S128x67, .bf16⟩
  | .local _ .vmem, ⟨5, _⟩ => ⟨S128x1, .f32⟩
  | .local _ .vmem, ⟨6, _⟩ => ⟨S128x55, .f32⟩
  | .local _ .vmem, ⟨7, _⟩ => ⟨S1x55, .f32⟩
  | .local _ .vmem, ⟨8, _⟩ => ⟨S16x55, .f32⟩
  | .local _ .vmem, ⟨9, _⟩ => ⟨S128x16, .f32⟩
  | .local _ .smem, ⟨0, _⟩ => ⟨S17, .i32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_118 : BitVec 32 := 3#32
  let v370 : BitVec 1 := Scalar.cmpi .eq arg0 c3_i32_118
  let v371 : BitVec 32 := Scalar.extui v370
  let c0_i32_119 : BitVec 32 := 0#32
  let v372 : BitVec 1 := Scalar.cmpi .ne v371 c0_i32_119
  v372

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x67 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x55 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x55 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x55 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32768x3 : Shape := ⟨2, ![32768, 3]⟩
abbrev S32768x64 : Shape := ⟨2, ![32768, 64]⟩
abbrev S17 : Shape := ⟨1, ![17]⟩
abbrev S67x128 : Shape := ⟨2, ![67, 128]⟩
abbrev S128 : Shape := ⟨1, ![128]⟩
abbrev S128x55 : Shape := ⟨2, ![128, 55]⟩
abbrev S55 : Shape := ⟨1, ![55]⟩
abbrev S32768x67 : Shape := ⟨2, ![32768, 67]⟩
abbrev S32768x128 : Shape := ⟨2, ![32768, 128]⟩
abbrev S1x128 : Shape := ⟨2, ![1, 128]⟩
abbrev S_ : Shape := ⟨0, ![]⟩
abbrev S32768 : Shape := ⟨1, ![32768]⟩
abbrev S16 : Shape := ⟨1, ![16]⟩
abbrev S1x16 : Shape := ⟨2, ![1, 16]⟩
abbrev S32768x1 : Shape := ⟨2, ![32768, 1]⟩
abbrev S32768x16 : Shape := ⟨2, ![32768, 16]⟩
abbrev S16x128 : Shape := ⟨2, ![16, 128]⟩
abbrev S16x1 : Shape := ⟨2, ![16, 1]⟩
abbrev S16x55 : Shape := ⟨2, ![16, 55]⟩
abbrev S1x55 : Shape := ⟨2, ![1, 55]⟩

abbrev nBuf : Space → Nat
  | .hbm => 43
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S32768x64, .f32⟩
  | .hbm, ⟨2, _⟩ => ⟨S17, .i32⟩
  | .hbm, ⟨3, _⟩ => ⟨S67x128, .f32⟩
  | .hbm, ⟨4, _⟩ => ⟨S128, .f32⟩
  | .hbm, ⟨5, _⟩ => ⟨S128x55, .f32⟩
  | .hbm, ⟨6, _⟩ => ⟨S55, .f32⟩
  | .hbm, ⟨7, _⟩ => ⟨S32768x67, .f32⟩
  | .hbm, ⟨8, _⟩ => ⟨S32768x128, .f32⟩
  | .hbm, ⟨9, _⟩ => ⟨S1x128, .f32⟩
  | .hbm, ⟨10, _⟩ => ⟨S32768x128, .f32⟩
  | .hbm, ⟨11, _⟩ => ⟨S32768x128, .f32⟩
  | .hbm, ⟨12, _⟩ => ⟨S_, .f32⟩
  | .hbm, ⟨13, _⟩ => ⟨S32768x128, .f32⟩
  | .hbm, ⟨14, _⟩ => ⟨S32768x128, .f32⟩
  | .hbm, ⟨15, _⟩ => ⟨S32768, .i32⟩
  | .hbm, ⟨16, _⟩ => ⟨S16, .i32⟩
  | .hbm, ⟨17, _⟩ => ⟨S1x16, .i32⟩
  | .hbm, ⟨18, _⟩ => ⟨S32768x1, .i32⟩
  | .hbm, ⟨19, _⟩ => ⟨S32768x16, .i32⟩
  | .hbm, ⟨20, _⟩ => ⟨S32768x16, .i32⟩
  | .hbm, ⟨21, _⟩ => ⟨S32768x16, .i1⟩
  | .hbm, ⟨22, _⟩ => ⟨S32768x16, .i32⟩
  | .hbm, ⟨23, _⟩ => ⟨S_, .i32⟩
  | .hbm, ⟨24, _⟩ => ⟨S32768, .i32⟩
  | .hbm, ⟨25, _⟩ => ⟨S_, .f32⟩
  | .hbm, ⟨26, _⟩ => ⟨S16x128, .f32⟩
  | .hbm, ⟨27, _⟩ => ⟨S32768x1, .i32⟩
  | .hbm, ⟨28, _⟩ => ⟨S16x128, .f32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16x1, .f32⟩
  | .hbm, ⟨37, _⟩ => ⟨S16x128, .f32⟩
  | .hbm, ⟨38, _⟩ => ⟨S16x128, .f32⟩
  | .hbm, ⟨39, _⟩ => ⟨S16x55, .f32⟩
  | .hbm, ⟨40, _⟩ => ⟨S1x55, .f32⟩
  | .hbm, ⟨41, _⟩ => ⟨S16x55, .f32⟩
  | .hbm, ⟨42, _⟩ => ⟨S16x55, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.Value
public import Idealize.ShloMosaic.Lib.Tactic
public import Idealize.ShloMosaic.Lib.ValueIdx

/-! What one grid step of the kernel leaves, as plain functions of the blocks it reads.

Each step embeds its 8192 points and adds, per segment, the embeddings of the points whose row lies in
that segment; the last step divides by the segment sizes and applies the classifier. The segment bounds
reach the step as 17 scalar words; the body spreads them over a vector with a chain of selects, one per
segment (`chain`). -/

@[expose] public section

noncomputable section

open Idealize.ShloMosaic Idealize.ShloMosaic.TcCoe Idealize.ShloMosaic.ValueIdx Idealize.SL.Sem

namespace Cert.KernelIdeal.Block

open Cert.KernelIdeal Cert.KernelIdeal.Gen

variable {F : FTy → Type} [FloatOps F]

/-- The zero offset of a two-axis block is the constant-zero offset. -/
theorem hz : (![0, 0] : Fin 2 → Nat) = fun _ => 0 := funext fun a => by fin_cases a <;> rfl

/-- The first `n` steps of a select chain over the positions `io`: position `j` takes the word `f j`. -/
def chain (S : Shape) (io : IVec S 32) (f : Fin 16 → BitVec 32) : (n : Nat) → n ≤ 16 → IVec S 32
  | 0, _ => broadcast S 0#32
  | n + 1, h => select (cmpi .eq io (broadcast S (BitVec.ofNat 32 n))) (broadcast S (f ⟨n, h⟩)) (chain S io f n (Nat.le_of_succ_le h))

/-- The chain at a position numbered `b` among its `n` steps is the word `f b`. -/
theorem chain_apply (S : Shape) (io : IVec S 32) (f : Fin 16 → BitVec 32) (j : S.Idx) (b : Fin 16) (n : Nat) (hb : b.val < n) (hn : n ≤ 16)
    (hio : io j = BitVec.ofNat 32 b.val) : chain S io f n hn j = f b := by
  induction n with
  | zero => omega
  | succ n ih =>
    change Scalar.select (IntOp.cmpi .eq (io j) (BitVec.ofNat 32 n)) (f ⟨n, hn⟩) (chain S io f n (Nat.le_of_succ_le hn) j) = f b
    rw [hio]
    by_cases h : b.val = n
    · subst h; simp [IntOp.cmpi, Scalar.select]
    · have hne : (BitVec.ofNat 32 b.val == BitVec.ofNat 32 n) = false := by
        rw [beq_eq_false_iff_ne]; intro e
        have := congrArg BitVec.toNat e
        simp only [BitVec.toNat_ofNat] at this
        omega
      simp only [IntOp.cmpi, hne, Scalar.select]
      simpa using ih (by omega) (Nat.le_of_succ_le hn)

/-- The offset word at position `k` of the 17 the step reads, as the body's scalar load takes it. -/
def word (x0 : Vec F S17 .i32) (k : Nat) (h : k < 17) : BitVec 32 :=
  View.ld (Val := Elt F) (e' := .i32) x0 (Rect.unit (s := S17) ![k] S1.size (Rect.inb₁ (Nat.succ_le_of_lt h)))
    (Shape.Idx.first (Nat.lt_of_lt_of_eq Nat.one_pos numel1_S1.symm))

/-- The word at position `k` is the vector's element there. -/
theorem word_eq (x0 : Vec F S17 .i32) (k : Nat) (h : k < 17) : word x0 k h = x0 (ix1 ⟨k, h⟩) := by
  refine congrArg x0 (funext fun a => ?_)
  fin_cases a
  rfl

/-- The embedded block added to the accumulator: position `(d, b)` gains the sum over the block's points
    of `emb d r` times the indicator that the row of `r` lies from `low b` up to `up b`. -/
def accum (arg0 : BitVec 32) (emb : FVec F S128x8192 .bf16) (low up : IVec S16x1 32) (acc : Vec F S128x16 .f32) : FVec F S128x16 .f32 :=
  let rows : IVec S1x8192 32 := addi (broadcast S1x8192 (Scalar.muli arg0 8192#32)) (iota .tc S1x8192 32 [1] iota_S1x8192_d1_w32)
  let hit : IVec S16x8192 1 :=
    andi (cmpi .sge (broadcastTo S16x8192 rows broadcasts_S1x8192_S16x8192) (broadcastTo S16x8192 low broadcasts_S16x1_S16x8192))
      (cmpi .slt (broadcastTo S16x8192 rows broadcasts_S1x8192_S16x8192) (broadcastTo S16x8192 up broadcasts_S16x1_S16x8192))
  let sel : FVec F S16x8192 .bf16 := truncf .bf16 (sitofp .f32 (extui 32 hit natLt_1_32)) bitsLt_bf16_f32
  addf acc (matmul dot_S128x8192_S8192x16_S128x16_1_0_0_1_n_n none emb
    (transpose S8192x16 [1, 0] sel transposes_S16x8192_p1_0_S8192x16) (constant S128x16 .f32 0x00000000#32))

/-- The embedded block of one grid step. -/
def embed (x1 : Vec F S3x8192 .f32) (x2 : Vec F S64x8192 .f32) (x3 : Vec F S128x67 .bf16) (x4 : Vec F S128x1 .f32) : FVec F S128x8192 .bf16 :=
  k0_pay2 (View.ld x3 (Rect.unit ![0, 0] ![128, 3] inb_S128x67_S128x3_0_0)) (View.ld x3 (Rect.unit ![0, 3] ![128, 64] inb_S128x67_S128x64_0_3)) x1 x2 x4

/-- The lower bounds of the segments: segment `b` starts at word `b`. -/
def lowWord (x0 : Vec F S17 .i32) (b : Fin 16) : BitVec 32 := word x0 b.val (by omega)
/-- The upper bounds of the segments: segment `b` ends before word `b + 1`. -/
def upWord (x0 : Vec F S17 .i32) (b : Fin 16) : BitVec 32 := word x0 (b.val + 1) (by omega)

/-- The accumulation as the body states it, its bounds finished by the last steps of two select chains. -/
theorem accum_eq (arg0 : BitVec 32) (emb : FVec F S128x8192 .bf16) (io v328 v333 : IVec S16x1 32) (v335 : IVec S16x1 1)
    (v336 v341 v346 : Elt F .i32) (acc : Vec F S128x16 .f32) :
    k0_pay30 arg0 emb io v328 v333 v335 v336 v341 v346 acc
      = accum arg0 emb (select (cmpi .eq io (broadcast S16x1 15#32)) (broadcast S16x1 v341) v333)
        (select (cmpi .eq io (broadcast S16x1 15#32)) (broadcast S16x1 v346) (select v335 (broadcast S16x1 v336) v328)) acc := by
  unfold k0_pay30
  dsimp only
  rw [shapeCast_self]
  rfl

/-- One word per segment, laid along a column of 16. -/
def column (f : Fin 16 → BitVec 32) : IVec S16x1 32 :=
  chain S16x1 (iota .tc S16x1 32 [0] iota_S16x1_d0_w32) f 16 (Nat.le_refl 16)
/-- One word per segment, laid along a row of 16. -/
def row (f : Fin 16 → BitVec 32) : IVec S1x16 32 :=
  chain S1x16 (iota .tc S1x16 32 [1] iota_S1x16_d1_w32) f 16 (Nat.le_refl 16)

/-- The accumulator after one grid step, from its blocks and the accumulator before it. -/
def step (i : grid0.Coords) (x0 : Vec F S17 .i32) (x1 : Vec F S3x8192 .f32) (x2 : Vec F S64x8192 .f32) (x3 : Vec F S128x67 .bf16)
    (x4 : Vec F S128x1 .f32) (acc : Vec F S128x16 .f32) : FVec F S128x16 .f32 :=
  accum (BitVec.ofNat 32 (i 0).val) (embed x1 x2 x3 x4) (column (lowWord x0)) (column (upWord x0)) acc

/-- The first step leaves one accumulation over the zero accumulator. -/
theorem sout_A (c : Dev nD) (i : grid0.Coords)
    (arg1 : Memref sig .tc .smem S17 .i32) (harg1 : arg1.IsWhole) (arg2 : Memref sig .tc .vmem S3x8192 .f32) (harg2 : arg2.IsWhole)
    (arg3 : Memref sig .tc .vmem S64x8192 .f32) (harg3 : arg3.IsWhole) (arg4 : Memref sig .tc .vmem S128x67 .bf16) (harg4 : arg4.IsWhole)
    (arg5 : Memref sig .tc .vmem S128x1 .f32) (harg5 : arg5.IsWhole) (arg6 : Memref sig .tc .vmem S128x55 .f32) (harg6 : arg6.IsWhole)
    (arg7 : Memref sig .tc .vmem S1x55 .f32) (harg7 : arg7.IsWhole) (arg8 : Memref sig .tc .vmem S16x55 .f32) (harg8 : arg8.IsWhole)
    (arg9 : Memref sig .tc .vmem S128x16 .f32) (harg9 : arg9.IsWhole)
    (hc0 : cond0_0 i) (hc1 : ¬cond0_1 i) (x0 : Vec F S17 .i32) (x1 : Vec F S3x8192 .f32) (x2 : Vec F S64x8192 .f32) (x3 : Vec F S128x67 .bf16)
    (x4 : Vec F S128x1 .f32) (x5 : Vec F S128x55 .f32) (x6 : Vec F S1x55 .f32) :
    sout0_A_0 c i arg1 harg1 arg2 harg2 arg3 harg3 arg4 harg4 arg5 harg5 arg6 harg6 arg7 harg7 arg8 harg8 arg9 harg9 hc0 hc1 x0 x1 x2 x3 x4 x5 x6
      = step i x0 x1 x2 x3 x4 k0_pay1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_cons_unit_zero (S := S128x16) hz, View.readCov_unit_zero (S := S128x16) _ hz]
  simp only [View.readAt_eq_ld, harg1.read_unread, harg2.read_unread, harg3.read_unread, harg4.read_unread, harg5.read_unread,
    harg6.read_unread, harg7.read_unread, harg9.read_unread, View.ld_unit_zero (S := S128x16) hz, View.ld_unit_zero (S := S128x1) hz,
    View.ld_unit_zero (S := S3x8192) hz, View.ld_unit_zero (S := S64x8192) hz, View.ld_unit_zero (S := S128x55) hz,
    View.ld_unit_zero (S := S1x55) hz, accum_eq]
  simp only [step, column, chain, lowWord, upWord, Nat.reduceAdd]
  rfl

/-- A middle step adds its block to the accumulator. -/
theorem sout_B (c : Dev nD) (i : grid0.Coords)
    (arg1 : Memref sig .tc .smem S17 .i32) (harg1 : arg1.IsWhole) (arg2 : Memref sig .tc .vmem S3x8192 .f32) (harg2 : arg2.IsWhole)
    (arg3 : Memref sig .tc .vmem S64x8192 .f32) (harg3 : arg3.IsWhole) (arg4 : Memref sig .tc .vmem S128x67 .bf16) (harg4 : arg4.IsWhole)
    (arg5 : Memref sig .tc .vmem S128x1 .f32) (harg5 : arg5.IsWhole) (arg6 : Memref sig .tc .vmem S128x55 .f32) (harg6 : arg6.IsWhole)
    (arg7 : Memref sig .tc .vmem S1x55 .f32) (harg7 : arg7.IsWhole) (arg8 : Memref sig .tc .vmem S16x55 .f32) (harg8 : arg8.IsWhole)
    (arg9 : Memref sig .tc .vmem S128x16 .f32) (harg9 : arg9.IsWhole)
    (hc0 : ¬cond0_0 i) (hc1 : ¬cond0_1 i) (x0 : Vec F S17 .i32) (x1 : Vec F S3x8192 .f32) (x2 : Vec F S64x8192 .f32) (x3 : Vec F S128x67 .bf16)
    (x4 : Vec F S128x1 .f32) (x5 : Vec F S128x55 .f32) (x6 : Vec F S1x55 .f32) (xs0 : Vec F S128x16 .f32) :
    sout0_B_0 c i arg1 harg1 arg2 harg2 arg3 harg3 arg4 harg4 arg5 harg5 arg6 harg6 arg7 harg7 arg8 harg8 arg9 harg9 hc0 hc1 x0 x1 x2 x3 x4 x5 x6 xs0
      = step i x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 x6 xs0)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg9.read_unread, View.ld_unit_zero (S := S128x16) hz, View.ld_unit_zero (S := S128x1) hz,
    View.ld_unit_zero (S := S3x8192) hz, View.ld_unit_zero (S := S64x8192) hz, View.ld_unit_zero (S := S128x55) hz,
    View.ld_unit_zero (S := S1x55) hz, accum_eq]
  simp only [step, column, chain, lowWord, upWord, Nat.reduceAdd]
  rfl

/-- The last step adds its block to the accumulator. -/
theorem sout_C (c : Dev nD) (i : grid0.Coords)
    (arg1 : Memref sig .tc .smem S17 .i32) (harg1 : arg1.IsWhole) (arg2 : Memref sig .tc .vmem S3x8192 .f32) (harg2 : arg2.IsWhole)
    (arg3 : Memref sig .tc .vmem S64x8192 .f32) (harg3 : arg3.IsWhole) (arg4 : Memref sig .tc .vmem S128x67 .bf16) (harg4 : arg4.IsWhole)
    (arg5 : Memref sig .tc .vmem S128x1 .f32) (harg5 : arg5.IsWhole) (arg6 : Memref sig .tc .vmem S128x55 .f32) (harg6 : arg6.IsWhole)
    (arg7 : Memref sig .tc .vmem S1x55 .f32) (harg7 : arg7.IsWhole) (arg8 : Memref sig .tc .vmem S16x55 .f32) (harg8 : arg8.IsWhole)
    (arg9 : Memref sig .tc .vmem S128x16 .f32) (harg9 : arg9.IsWhole)
    (hc0 : ¬cond0_0 i) (hc1 : cond0_1 i) (x0 : Vec F S17 .i32) (x1 : Vec F S3x8192 .f32) (x2 : Vec F S64x8192 .f32) (x3 : Vec F S128x67 .bf16)
    (x4 : Vec F S128x1 .f32) (x5 : Vec F S128x55 .f32) (x6 : Vec F S1x55 .f32) (xs0 : Vec F S128x16 .f32) :
    sout0_C_0 c i arg1 harg1 arg2 harg2 arg3 harg3 arg4 harg4 arg5 harg5 arg6 harg6 arg7 harg7 arg8 harg8 arg9 harg9 hc0 hc1 x0 x1 x2 x3 x4 x5 x6 xs0
      = step i x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero hz]
  simp only [View.readAt_eq_ld, harg1.read_unread, harg2.read_unread, harg3.read_unread, harg4.read_unread, harg5.read_unread,
    harg6.read_unread, harg7.read_unread, harg9.read_unread, View.ld_unit_zero (S := S128x16) hz, View.ld_unit_zero (S := S128x1) hz,
    View.ld_unit_zero (S := S3x8192) hz, View.ld_unit_zero (S := S64x8192) hz, View.ld_unit_zero (S := S128x55) hz,
    View.ld_unit_zero (S := S1x55) hz, accum_eq]
  simp only [step, column, chain, lowWord, upWord, Nat.reduceAdd]
  rfl

/-- The last step writes the classifier's answer on the accumulator it leaves. -/
theorem out_C (c : Dev nD) (i : grid0.Coords)
    (arg1 : Memref sig .tc .smem S17 .i32) (harg1 : arg1.IsWhole) (arg2 : Memref sig .tc .vmem S3x8192 .f32) (harg2 : arg2.IsWhole)
    (arg3 : Memref sig .tc .vmem S64x8192 .f32) (harg3 : arg3.IsWhole) (arg4 : Memref sig .tc .vmem S128x67 .bf16) (harg4 : arg4.IsWhole)
    (arg5 : Memref sig .tc .vmem S128x1 .f32) (harg5 : arg5.IsWhole) (arg6 : Memref sig .tc .vmem S128x55 .f32) (harg6 : arg6.IsWhole)
    (arg7 : Memref sig .tc .vmem S1x55 .f32) (harg7 : arg7.IsWhole) (arg8 : Memref sig .tc .vmem S16x55 .f32) (harg8 : arg8.IsWhole)
    (arg9 : Memref sig .tc .vmem S128x16 .f32) (harg9 : arg9.IsWhole)
    (hc0 : ¬cond0_0 i) (hc1 : cond0_1 i) (x0 : Vec F S17 .i32) (x1 : Vec F S3x8192 .f32) (x2 : Vec F S64x8192 .f32) (x3 : Vec F S128x67 .bf16)
    (x4 : Vec F S128x1 .f32) (x5 : Vec F S128x55 .f32) (x6 : Vec F S1x55 .f32) (xs0 : Vec F S128x16 .f32) :
    out0_C_7 c i arg1 harg1 arg2 harg2 arg3 harg3 arg4 harg4 arg5 harg5 arg6 harg6 arg7 harg7 arg8 harg8 arg9 harg9 hc0 hc1 x0 x1 x2 x3 x4 x5 x6 xs0
      = k0_pay31 (row (lowWord x0)) (row (upWord x0)) (step i x0 x1 x2 x3 x4 xs0) x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero hz, View.readCov_unit_zero (S := S128x16) _ hz]
  simp only [View.readAt_eq_ld, harg1.read_unread, harg2.read_unread, harg3.read_unread, harg4.read_unread, harg5.read_unread,
    harg6.read_unread, harg7.read_unread, harg9.read_unread, View.ld_unit_zero (S := S128x16) hz, View.ld_unit_zero (S := S128x1) hz,
    View.ld_unit_zero (S := S3x8192) hz, View.ld_unit_zero (S := S64x8192) hz, View.ld_unit_zero (S := S128x55) hz,
    View.ld_unit_zero (S := S1x55) hz, accum_eq]
  simp only [step, column, row, chain, lowWord, upWord, Nat.reduceAdd]
  rfl

end Cert.KernelIdeal.Block
-- ==== Proof.Fold.lean ====
module

public import proofs.«01_k».proof.Proof.Block
public import proofs.«01_k».proof.Proof.Gen.KernelIdeal.Value

/-! The kernel's result as a fold of its four grid steps.

The accumulator after the last step is `step` applied four times from the zero accumulator, each at its own
grid point's blocks; the result is the classifier's answer on it. -/

@[expose] public section

noncomputable section

open Idealize.ShloMosaic Idealize.ShloMosaic.TcCoe Idealize.ShloMosaic.ValueIdx Idealize.SL.Sem

namespace Cert.KernelIdeal.Block

open Cert.KernelIdeal Cert.KernelIdeal.Gen

variable {F : FTy → Type} [FloatOps F]
variable (m : (ℓ : Loc nD τ sig) → Buf (Elt F) ℓ)

/-- One grid step at point `t` of the run: `step` at that point's blocks. -/
def stepAt (c : Dev nD) (t : Fin cfg0.N) (acc : Vec F S128x16 .f32) : FVec F S128x16 .f32 :=
  step (grid0.coords t) (iblk m c 0 t) (iblk m c 1 t) (iblk m c 2 t) (iblk m c 3 t) (iblk m c 4 t) acc

/-- The accumulator after point `n`. -/
def accAfter (c : Dev nD) : (n : Nat) → n < cfg0.N → Vec F S128x16 .f32
  | 0, h => stepAt m c ⟨0, h⟩ k0_pay1
  | n + 1, h => stepAt m c ⟨n + 1, h⟩ (accAfter c n (Nat.lt_of_succ_lt h))

/-- The carried accumulator after point `n` is that fold. -/
theorem carried_eq (c : Dev nD) (n : Nat) (h : n < cfg0.N) : (outsAt0 m c n h).2 = accAfter m c n h := by
  have hN : cfg0.N = 4 := N_0
  induction n with
  | zero =>
    have e := congrArg Prod.snd (outsAt0_A m c ⟨0, h⟩ (Nat.zero_mod 4) (by simp))
    dsimp only at e
    rw [sout_A] at e
    exact e
  | succ n ih =>
    have ih' := ih (Nat.lt_of_succ_lt h)
    have h0 : ¬(n + 1) % 4 = 0 := by omega
    have next : (outsAt0 m c (n + 1) h).2 = stepAt m c ⟨n + 1, h⟩ (outsAt0 m c n (Nat.lt_of_succ_lt h)).2 := by
      by_cases h1 : (n + 1) % 4 = 3
      · have e := congrArg Prod.snd (outsAt0_C m c ⟨n + 1, h⟩ h0 h1)
        dsimp only at e
        rw [sout_C] at e
        exact e
      · have e := congrArg Prod.snd (outsAt0_B m c ⟨n + 1, h⟩ h0 h1)
        dsimp only at e
        rw [sout_B] at e
        exact e
    rw [next, ih']
    rfl

/-- The last grid point. -/
def last : Fin cfg0.N := ⟨3, lt_of_lt_of_eq (by decide) N_0.symm⟩

/-- The result array after the run: the classifier on the accumulator after the last point. -/
theorem result_eq (c : Dev nD) :
    Value.G7 m c = k0_pay31 (row (lowWord (iblk m c 0 last))) (row (upWord (iblk m c 0 last)))
      (accAfter m c last.val last.isLt) (iblk m c 5 last) (iblk m c 6 last) := by
  rw [Value.G7_last, ← Value.outsAt0_sweep]
  have e := congrArg Prod.fst (outsAt0_C m c last (by decide) rfl)
  dsimp only at e
  rw [out_C] at e
  refine e.trans ?_
  have ih := carried_eq m c 2 (lt_of_lt_of_eq (by decide) N_0.symm)
  exact congrArg (fun a => k0_pay31 (row (lowWord (iblk m c 0 last))) (row (upWord (iblk m c 0 last)))
    (stepAt m c last a) (iblk m c 5 last) (iblk m c 6 last)) ih

end Cert.KernelIdeal.Block
-- ==== Proof.Blocks.lean ====
module

public import proofs.«01_k».proof.Proof.Fold
public import Idealize.ShloMosaic.Lib.Pipeline.ValueKit
public import Idealize.ShloMosaic.Lib.StableHlo.ReadAt
public import Idealize.ShloMosaic.Lib.Claim
public import Idealize.ShloMosaic.Lib.ValueLayout

/-! The blocks a grid point reads, element by element, in terms of the arguments.

Before the launch the host transposes the points, the features and the encoder weights and reshapes the two
biases; each lemma here reads one block through that preparation. -/

@[expose] public section

noncomputable section

open Idealize.ShloMosaic hiding ix0 ix1 ix2
open Idealize.ShloMosaic.TcCoe Idealize.ShloMosaic.ValueIdx Idealize.SL.Sem

namespace Cert.KernelIdeal.Block

open Cert.KernelIdeal Cert.KernelIdeal.Gen

variable (m : (ℓ : Loc nD τ sig) → Buf (Elt Ideal) ℓ)

/-- Every window's block index at a grid point. -/
theorem idx : ∀ t : Fin cfg0.N, win0_0.index t = ![0] ∧ win0_1.index t = ![0, t.val] ∧ win0_2.index t = ![0, t.val]
    ∧ win0_3.index t = ![0, 0] ∧ win0_4.index t = ![0, 0] ∧ win0_5.index t = ![0, 0] ∧ win0_6.index t = ![0, 0] :=
  (by decide +kernel : ∀ t : Fin grid0.N, _)

/-- A point's row among all of them: row `r` of block `t`. -/
def rowOf (t : Fin cfg0.N) (r : Fin 8192) : Fin 32768 :=
  ⟨8192 * t.val + r.val, by have := t.isLt; have hN : cfg0.N = 4 := N_0; omega⟩

/-- The points as the launch finds them: the argument transposed. -/
theorem V_points (c : Dev nD) : V m c main_call0_v0
    = transpose S3x32768 [1, 0] (m ((c : Thread nD τ).loc main_arg0)) transposes_S32768x3_S3x32768_1_0 := by
  show StableHlo.after hostOps0 _ (Proc.devRef .tc main_call0_v0) = _
  after_results
  rfl

/-- The features as the launch finds them: the argument transposed. -/
theorem V_feats (c : Dev nD) : V m c main_call0_v1
    = transpose S64x32768 [1, 0] (m ((c : Thread nD τ).loc main_arg1)) transposes_S32768x64_S64x32768_1_0 := by
  show StableHlo.after hostOps0 _ (Proc.devRef .tc main_call0_v1) = _
  after_results
  rfl

/-- The encoder weights as the launch finds them: the argument transposed (its change of width changes nothing here). -/
theorem V_weights (c : Dev nD) : V m c main_call0_v3
    = transpose S128x67 [1, 0] (m ((c : Thread nD τ).loc main_arg3)) transposes_S67x128_S128x67_1_0 := by
  show StableHlo.after hostOps0 _ (Proc.devRef .tc main_call0_v3) = _
  after_results
  rfl

/-- The offsets block is the offsets argument. -/
theorem blk0 (c : Dev nD) (t : Fin cfg0.N) (k : Fin 17) :
    iblk m c 0 t (ix1 k) = m ((c : Thread nD τ).loc main_arg2) (ix1 k) := by
  blk_ext! [iblk, V, idx t]

/-- The points block holds point `rowOf t r` at column `r`. -/
theorem blk1 (c : Dev nD) (t : Fin cfg0.N) (d : Fin 3) (r : Fin 8192) :
    iblk m c 1 t (ix2 d r) = m ((c : Thread nD τ).loc main_arg0) (ix2 (rowOf t r) d) := by
  have e : iblk m c 1 t (ix2 d r) = V m c main_call0_v0 (ix2 d (rowOf t r)) := by
    refine congrArg (V m c main_call0_v0) (funext fun a => Fin.ext ?_)
    match a with
    | ⟨0, _⟩ => blk_simp; rw [(idx t).2.1]; change 0 * 3 + d.val = d.val; omega
    | ⟨1, _⟩ => blk_simp; rw [(idx t).2.1]; change t.val * 8192 + r.val = 8192 * t.val + r.val; omega
  rw [e, V_points]
  exact transpose_ix2_apply ..

/-- The features block holds the features of point `rowOf t r` at column `r`. -/
theorem blk2 (c : Dev nD) (t : Fin cfg0.N) (d : Fin 64) (r : Fin 8192) :
    iblk m c 2 t (ix2 d r) = m ((c : Thread nD τ).loc main_arg1) (ix2 (rowOf t r) d) := by
  have e : iblk m c 2 t (ix2 d r) = V m c main_call0_v1 (ix2 d (rowOf t r)) := by
    refine congrArg (V m c main_call0_v1) (funext fun a => Fin.ext ?_)
    match a with
    | ⟨0, _⟩ => blk_simp; rw [(idx t).2.2.1]; change 0 * 64 + d.val = d.val; omega
    | ⟨1, _⟩ => blk_simp; rw [(idx t).2.2.1]; change t.val * 8192 + r.val = 8192 * t.val + r.val; omega
  rw [e, V_feats]
  exact transpose_ix2_apply ..

/-- The weights block is the encoder weights transposed. -/
theorem blk3 (c : Dev nD) (t : Fin cfg0.N) (d : Fin 128) (k : Fin 67) :
    iblk m c 3 t (ix2 d k) = m ((c : Thread nD τ).loc main_arg3) (ix2 k d) := by
  have e : iblk m c 3 t (ix2 d k) = V m c main_call0_v3 (ix2 d k) := by
    refine congrArg (V m c main_call0_v3) (funext fun a => Fin.ext ?_)
    match a with
    | ⟨0, _⟩ => blk_simp; rw [(idx t).2.2.2.1]; change 0 * 128 + d.val = d.val; omega
    | ⟨1, _⟩ => blk_simp; rw [(idx t).2.2.2.1]; change 0 * 67 + k.val = k.val; omega
  rw [e, V_weights]
  exact transpose_ix2_apply ..

/-- The encoder bias block is the bias laid along a column. -/
theorem blk4 (c : Dev nD) (t : Fin cfg0.N) (d : Fin 128) :
    iblk m c 4 t (ix2 d (0 : Fin 1)) = m ((c : Thread nD τ).loc main_arg4) (ix1 d) := by
  blk_ext! [iblk, V, idx t]

/-- The classifier weights block is the argument. -/
theorem blk5 (c : Dev nD) (t : Fin cfg0.N) (d : Fin 128) (j : Fin 55) :
    iblk m c 5 t (ix2 d j) = m ((c : Thread nD τ).loc main_arg5) (ix2 d j) := by
  blk_ext! [iblk, V, idx t]

/-- The classifier bias block is the bias laid along a row. -/
theorem blk6 (c : Dev nD) (t : Fin cfg0.N) (j : Fin 55) :
    iblk m c 6 t (ix2 (0 : Fin 1) j) = m ((c : Thread nD τ).loc main_arg6) (ix1 j) := by
  blk_ext! [iblk, V, idx t]

end Cert.KernelIdeal.Block
-- ==== Proof.Model.lean ====
module

public import Idealize.ShloMosaic.PureOps.Ideal.Laws
public import Idealize.ShloMosaic.Lib.ValueIdx

/-! The mathematics both programs compute, over the extended reals.

There are 32768 points with 3 coordinates and 64 features, and 16 segments of consecutive rows delimited by 17
offsets. A point is embedded by an affine map and a ramp; a segment is pooled to the mean of its embedded points (an
empty segment divides by one); an affine classifier maps the pooled vector to 55 scores. -/

@[expose] public section

noncomputable section

open Idealize.ShloMosaic Idealize.ShloMosaic.ValueIdx
open scoped BigOperators

namespace Cert.Model

/-- A matrix of extended reals. -/
abbrev Mat (a b : ℕ) := (⟨2, ![a, b]⟩ : Shape).Idx → EReal
/-- A vector of extended reals. -/
abbrev Arr (a : ℕ) := (⟨1, ![a]⟩ : Shape).Idx → EReal
/-- The 17 offset words. -/
abbrev Offs := (⟨1, ![17]⟩ : Shape).Idx → BitVec 32

/-- Component `d` of the embedding of point `p`. -/
def point (coords : Mat 32768 3) (feats : Mat 32768 64) (w : Mat 67 128) (be : Arr 128) (p : Fin 32768) (d : Fin 128) : EReal :=
  max ((∑ k : Fin 3, coords (ix2 p k) * w (ix2 (⟨k.val, by omega⟩ : Fin 67) d))
    + (∑ k : Fin 64, feats (ix2 p k) * w (ix2 (⟨3 + k.val, by omega⟩ : Fin 67) d)) + be (ix1 d)) 0

/-- Where segment `b` starts. -/
def lo (off : Offs) (b : Fin 16) : BitVec 32 := off (ix1 (⟨b.val, by omega⟩ : Fin 17))
/-- Where segment `b` ends. -/
def hi (off : Offs) (b : Fin 16) : BitVec 32 := off (ix1 (⟨b.val + 1, by omega⟩ : Fin 17))

/-- Row `p` lies in segment `b`. -/
def inSeg (off : Offs) (b : Fin 16) (p : Fin 32768) : Prop := (lo off b).toInt ≤ (p.val : ℤ) ∧ (p.val : ℤ) < (hi off b).toInt

instance (off : Offs) (b : Fin 16) (p : Fin 32768) : Decidable (inSeg off b p) := by unfold inSeg; infer_instance

/-- The sum of the embedded points of segment `b`. -/
def pooled (coords : Mat 32768 3) (feats : Mat 32768 64) (w : Mat 67 128) (be : Arr 128) (off : Offs) (b : Fin 16) (d : Fin 128) : EReal :=
  ∑ p : Fin 32768, if inSeg off b p then point coords feats w be p d else 0

/-- What segment `b` divides by: its length, at least one. -/
def size (off : Offs) (b : Fin 16) : EReal := max (((hi off b - lo off b).toInt : ℝ) : EReal) 1

/-- Score `j` of segment `b`. -/
def score (coords : Mat 32768 3) (feats : Mat 32768 64) (off : Offs) (w : Mat 67 128) (be : Arr 128) (wc : Mat 128 55) (bc : Arr 55)
    (b : Fin 16) (j : Fin 55) : EReal :=
  (∑ d : Fin 128, Ideal.div (pooled coords feats w be off b d) (size off b) * wc (ix2 d j)) + bc (ix1 j)

end Cert.Model
-- ==== Proof.Sums.lean ====
module

public import proofs.«01_k».proof.Proof.Blocks
public import proofs.«01_k».proof.Proof.Model
public import Idealize.ShloMosaic.Lib.MatmulPlain
public import Idealize.ShloMosaic.Lib.IdealHost
public import Idealize.ShloMosaic.Lib.WordCmp

/-! One grid step, and the final classifier, read at an index over the extended reals. -/

@[expose] public section

noncomputable section

open Idealize.ShloMosaic hiding ix0 ix1 ix2
open Idealize.ShloMosaic.TcCoe Idealize.ShloMosaic.ValueIdx Idealize.SL.Sem
open scoped BigOperators

namespace Cert.KernelIdeal.Block

open Cert.KernelIdeal Cert.KernelIdeal.Gen

/-- The position numbers down a column of 16. -/
theorem iota_column (b : Fin 16) : iota .tc S16x1 32 [0] iota_S16x1_d0_w32 (ix2 b (0 : Fin 1)) = BitVec.ofNat 32 b.val := by
  show BitVec.ofNat 32 (0 * 16 + b.val) = _
  rw [Nat.zero_mul, Nat.zero_add]

/-- The position numbers along a row of 16. -/
theorem iota_row (b : Fin 16) : iota .tc S1x16 32 [1] iota_S1x16_d1_w32 (ix2 (0 : Fin 1) b) = BitVec.ofNat 32 b.val := by
  show BitVec.ofNat 32 (0 * 16 + b.val) = _
  rw [Nat.zero_mul, Nat.zero_add]

/-- The position numbers along a block of 8192 rows. -/
theorem iota_block (r : Fin 8192) : iota .tc S1x8192 32 [1] iota_S1x8192_d1_w32 (ix2 (0 : Fin 1) r) = BitVec.ofNat 32 r.val := by
  show BitVec.ofNat 32 (0 * 8192 + r.val) = _
  rw [Nat.zero_mul, Nat.zero_add]

/-- The column of words at row `b` is word `b`. -/
theorem column_apply (f : Fin 16 → BitVec 32) (b : Fin 16) : column f (ix2 b (0 : Fin 1)) = f b :=
  chain_apply _ _ f _ b 16 b.isLt (Nat.le_refl 16) (iota_column b)

/-- The row of words at column `b` is word `b`. -/
theorem row_apply (f : Fin 16 → BitVec 32) (b : Fin 16) : row f (ix2 (0 : Fin 1) b) = f b :=
  chain_apply _ _ f _ b 16 b.isLt (Nat.le_refl 16) (iota_row b)

/-- One column broadcast over many reads the operand's one column. -/
theorem broadcastTo_a1_ab {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row number of a block's point, as the step computes it in 32-bit words. -/
theorem rowWord (t : Nat) (ht : t < 4) (r : Fin 8192) :
    (IntOp.addi (Scalar.muli (BitVec.ofNat 32 t) 8192#32) (BitVec.ofNat 32 r.val)).toInt = ((8192 * t + r.val : ℕ) : ℤ) := by
  have e : IntOp.addi (Scalar.muli (BitVec.ofNat 32 t) 8192#32) (BitVec.ofNat 32 r.val) = BitVec.ofNat 32 (8192 * t + r.val) := by
    apply BitVec.eq_of_toNat_eq
    have := r.isLt
    simp only [IntOp.addi, Scalar.muli, IntOp.muli, BitVec.toNat_add, BitVec.toNat_mul, BitVec.toNat_ofNat]
    omega
  rw [e]
  have := r.isLt
  exact WordCmp.toInt_ofNat_of_lt (by omega)

/-- The selector of one row and one segment: one when the row lies between the bounds, zero otherwise. -/
theorem selector (x l u : BitVec 32) :
    ((((IntOp.andi (IntOp.cmpi .sge x l) (IntOp.cmpi .slt x u)).setWidth 32).toInt : ℝ) : EReal)
      = if l.toInt ≤ x.toInt ∧ x.toInt < u.toInt then 1 else 0 := by
  by_cases h1 : l.toInt ≤ x.toInt <;> by_cases h2 : x.toInt < u.toInt <;>
    simp [IntOp.andi, IntOp.cmpi, BitVec.sle, BitVec.slt, h1, h2]

/-- One accumulation at `(d, b)`: the accumulator plus the block's embeddings of the rows within the bounds. -/
theorem accum_apply (t : Nat) (ht : t < 4) (emb : FVec Ideal S128x8192 .bf16) (low up : IVec S16x1 32) (acc : Vec Ideal S128x16 .f32)
    (d : Fin 128) (b : Fin 16) :
    accum (BitVec.ofNat 32 t) emb low up acc (ix2 d b) = acc (ix2 d b)
      + ∑ r : Fin 8192, emb (ix2 d r) * (if (low (ix2 b (0 : Fin 1))).toInt ≤ ((8192 * t + r.val : ℕ) : ℤ)
        ∧ ((8192 * t + r.val : ℕ) : ℤ) < (up (ix2 b (0 : Fin 1))).toInt then 1 else 0) := by
  unfold accum
  dsimp only
  rw [addf_apply]
  refine congrArg (acc (ix2 d b) + ·) ?_
  refine (Ideal.matmul_plain_apply (M := 128) (K := 8192) (N := 16) none emb _ _ d b).trans ?_
  rw [ValueIdx.constant_apply]
  refine (congrArg (· + _) Ideal.ofBits_zero_f32).trans ((zero_add _).trans (Finset.sum_congr rfl fun r _ => congrArg (emb (ix2 d r) * ·) ?_))
  rw [transpose_ix2_apply, ValueIdx.truncf_apply, sitofp_apply, extui_apply]
  refine (selector _ _ _).trans ?_
  rw [broadcastTo_1b_ab_apply, broadcastTo_a1_ab, broadcastTo_a1_ab]
  refine if_congr ?_ rfl rfl
  rw [← rowWord t ht r, ← iota_block r]
  rfl

/-- One block embedded, at `(d, r)`. -/
theorem embed_apply (x1 : Vec Ideal S3x8192 .f32) (x2 : Vec Ideal S64x8192 .f32) (x3 : Vec Ideal S128x67 .bf16) (x4 : Vec Ideal S128x1 .f32)
    (d : Fin 128) (r : Fin 8192) :
    embed x1 x2 x3 x4 (ix2 d r) = max ((∑ k : Fin 3, x3 (ix2 d (⟨k.val, by omega⟩ : Fin 67)) * x1 (ix2 k r))
      + (∑ k : Fin 64, x3 (ix2 d (⟨3 + k.val, by omega⟩ : Fin 67)) * x2 (ix2 k r)) + x4 (ix2 d (0 : Fin 1))) 0 := by
  unfold embed k0_pay2
  simp only [shapeCast_self]
  rw [ValueIdx.truncf_apply, maximumf_apply, addf_apply, addf_apply, broadcastTo_a1_ab]
  refine congrArg₂ max (congrArg (· + x4 (ix2 d (0 : Fin 1))) (congrArg₂ (· + ·) ?_ ?_)) Ideal.ofBits_zero_f32
  · refine (Ideal.matmul_plain_apply (M := 128) (K := 3) (N := 8192) none _ _ _ d r).trans ?_
    rw [ValueIdx.constant_apply]
    refine (congrArg (· + _) Ideal.ofBits_zero_f32).trans ((zero_add _).trans (Finset.sum_congr rfl fun k _ => ?_))
    rw [ValueIdx.truncf_apply]
    refine congrArg (x3 · * x1 (ix2 k r)) (funext fun a => Fin.ext ?_)
    match a with
    | ⟨0, _⟩ => show 0 + 1 * d.val = d.val; omega
    | ⟨1, _⟩ => show 0 + 1 * k.val = k.val; omega
  · refine (Ideal.matmul_plain_apply (M := 128) (K := 64) (N := 8192) none _ _ _ d r).trans ?_
    rw [ValueIdx.constant_apply]
    refine (congrArg (· + _) Ideal.ofBits_zero_f32).trans ((zero_add _).trans (Finset.sum_congr rfl fun k _ => ?_))
    rw [ValueIdx.truncf_apply]
    refine congrArg (x3 · * x2 (ix2 k r)) (funext fun a => Fin.ext ?_)
    match a with
    | ⟨0, _⟩ => show 0 + 1 * d.val = d.val; omega
    | ⟨1, _⟩ => show 3 + 1 * k.val = 3 + k.val; omega

/-- The classifier's product, which contracts the first axis of both operands, at `(b, j)`. -/
theorem classify_dot (lhs : FVec Ideal S128x16 .f32) (rhs : FVec Ideal S128x55 .f32) (acc : FVec Ideal S16x55 .f32) (b : Fin 16) (j : Fin 55) :
    matmul dot_S128x16_S128x55_S16x55_0_0_1_1_n_n none lhs rhs acc (ix2 b j)
      = acc (ix2 b j) + ∑ d : Fin 128, lhs (ix2 d b) * rhs (ix2 d j) := by
  let e : dot_S128x16_S128x55_S16x55_0_0_1_1_n_n.contr.Idx ≃ Fin 128 := contrEquiv1 _ 128 rfl rfl
  refine (Ideal.matmul_apply _ none lhs rhs acc _).trans ?_
  rw [← Equiv.sum_comp e.symm]
  refine congrArg (acc (ix2 b j) + ·) (Finset.sum_congr rfl fun d _ => ?_)
  have hd := contrEquiv1_symm_val dot_S128x16_S128x55_S16x55_0_0_1_1_n_n 128 rfl rfl d
  refine congrArg₂ (· * ·) (congrArg lhs (funext fun a => Fin.ext ?_)) (congrArg rhs (funext fun a => Fin.ext ?_))
  · match a with
    | ⟨0, _⟩ => exact hd
    | ⟨1, _⟩ => rfl
  · match a with
    | ⟨0, _⟩ => exact hd
    | ⟨1, _⟩ => rfl

/-- The last step's result at `(b, j)`. -/
theorem classify_apply (low up : IVec S1x16 32) (acc : Vec Ideal S128x16 .f32) (wc : Vec Ideal S128x55 .f32) (bc : Vec Ideal S1x55 .f32)
    (b : Fin 16) (j : Fin 55) :
    k0_pay31 low up acc wc bc (ix2 b j) = (∑ d : Fin 128, Ideal.div (acc (ix2 d b))
        (max (((up (ix2 (0 : Fin 1) b) - low (ix2 (0 : Fin 1) b)).toInt : ℝ) : EReal) 1) * wc (ix2 d j)) + bc (ix2 (0 : Fin 1) j) := by
  unfold k0_pay31
  simp only [shapeCast_self]
  rw [addf_apply, broadcastTo_1b_ab_apply]
  refine congrArg (· + bc (ix2 (0 : Fin 1) j)) ?_
  refine (classify_dot _ _ _ b j).trans ?_
  rw [ValueIdx.constant_apply]
  refine (congrArg (· + _) Ideal.ofBits_zero_f32).trans ((zero_add _).trans (Finset.sum_congr rfl fun d _ => ?_))
  refine congrArg (· * wc (ix2 d j)) ?_
  rw [divf_apply, broadcastTo_1b_ab_apply, maximumf_apply, sitofp_apply]
  refine congrArg (Ideal.div (acc (ix2 d b))) (congrArg₂ max rfl ?_)
  exact Ideal.ofBits_one_f32

end Cert.KernelIdeal.Block
-- ==== Proof.Total.lean ====
module

public import proofs.«01_k».proof.Proof.Sums

/-! The kernel's result over the extended reals: the four steps' sums are one sum over all 32768 rows. -/

@[expose] public section

noncomputable section

open Idealize.ShloMosaic hiding ix0 ix1 ix2
open Idealize.ShloMosaic.TcCoe Idealize.ShloMosaic.ValueIdx Idealize.SL.Sem
open scoped BigOperators

namespace Cert.KernelIdeal.Block

open Cert.KernelIdeal Cert.KernelIdeal.Gen

variable (m : (ℓ : Loc nD τ sig) → Buf (Elt Ideal) ℓ)

/-- The points' coordinates. -/
abbrev coords (c : Dev nD) : Cert.Model.Mat 32768 3 := m ((c : Thread nD τ).loc main_arg0)
/-- The points' features. -/
abbrev feats (c : Dev nD) : Cert.Model.Mat 32768 64 := m ((c : Thread nD τ).loc main_arg1)
/-- The segment offsets. -/
abbrev offs (c : Dev nD) : Cert.Model.Offs := m ((c : Thread nD τ).loc main_arg2)
/-- The embedding's matrix. -/
abbrev wEnc (c : Dev nD) : Cert.Model.Mat 67 128 := m ((c : Thread nD τ).loc main_arg3)
/-- The embedding's bias. -/
abbrev bEnc (c : Dev nD) : Cert.Model.Arr 128 := m ((c : Thread nD τ).loc main_arg4)
/-- The classifier's matrix. -/
abbrev wCls (c : Dev nD) : Cert.Model.Mat 128 55 := m ((c : Thread nD τ).loc main_arg5)
/-- The classifier's bias. -/
abbrev bCls (c : Dev nD) : Cert.Model.Arr 55 := m ((c : Thread nD τ).loc main_arg6)

/-- What row `p` contributes to segment `b` at component `d`. -/
def term (c : Dev nD) (b : Fin 16) (d : Fin 128) (p : Fin 32768) : EReal :=
  if Cert.Model.inSeg (offs m c) b p then Cert.Model.point (coords m c) (feats m c) (wEnc m c) (bEnc m c) p d else 0

/-- The embedding a step computes for its point `r` is that of the point's row. -/
theorem embed_row (c : Dev nD) (t : Fin cfg0.N) (d : Fin 128) (r : Fin 8192) :
    embed (iblk m c 1 t) (iblk m c 2 t) (iblk m c 3 t) (iblk m c 4 t) (ix2 d r)
      = Cert.Model.point (coords m c) (feats m c) (wEnc m c) (bEnc m c) (rowOf t r) d := by
  refine (embed_apply _ _ _ _ d r).trans ?_
  unfold Cert.Model.point
  refine congrArg₂ max (congrArg₂ (· + ·) (congrArg₂ (· + ·) (Finset.sum_congr rfl fun k _ => ?_) (Finset.sum_congr rfl fun k _ => ?_)) ?_) rfl
  · rw [blk3, blk1, mul_comm]
  · rw [blk3, blk2, mul_comm]
  · rw [blk4]

/-- One step at `(d, b)` adds the contributions of its 8192 rows. -/
theorem stepAt_apply (c : Dev nD) (t : Fin cfg0.N) (acc : Vec Ideal S128x16 .f32) (d : Fin 128) (b : Fin 16) :
    stepAt m c t acc (ix2 d b) = acc (ix2 d b) + ∑ r : Fin 8192, term m c b d (rowOf t r) := by
  have hN : cfg0.N = 4 := N_0
  have ht : t.val < 4 := by have := t.isLt; omega
  have hc : ((grid0.coords t) 0).val = t.val := (by decide +kernel : ∀ t : Fin grid0.N, ((grid0.coords t) 0).val = t.val) t
  unfold stepAt step
  rw [hc]
  refine (accum_apply t.val ht _ _ _ acc d b).trans ?_
  refine congrArg (acc (ix2 d b) + ·) (Finset.sum_congr rfl fun r _ => ?_)
  rw [embed_row m c t d r, column_apply, column_apply]
  have hl : lowWord (iblk m c 0 t) b = Cert.Model.lo (offs m c) b := (word_eq _ _ _).trans (blk0 m c t _)
  have hu : upWord (iblk m c 0 t) b = Cert.Model.hi (offs m c) b := (word_eq _ _ _).trans (blk0 m c t _)
  rw [hl, hu, mul_ite, mul_one, mul_zero]
  unfold term Cert.Model.inSeg
  rfl

/-- The accumulator after step `n` at `(d, b)`: the contributions of the rows of the steps so far. -/
theorem accAfter_apply (c : Dev nD) (d : Fin 128) (b : Fin 16) : ∀ (n : ℕ) (h : n < cfg0.N),
    accAfter m c n h (ix2 d b) = ∑ t : Fin (n + 1), ∑ r : Fin 8192, term m c b d (rowOf ⟨t.val, by omega⟩ r)
  | 0, h => by
    rw [accAfter, stepAt_apply]
    have hz : k0_pay1 (F := Ideal) (ix2 d b) = 0 := by
      unfold k0_pay1
      exact Ideal.ofBits_zero_f32
    rw [hz, zero_add, Fin.sum_univ_one]
    rfl
  | n + 1, h => by
    rw [accAfter, stepAt_apply, accAfter_apply c d b n, Fin.sum_univ_castSucc (n := n + 1)]
    rfl

/-- The sum over all rows, block by block. -/
theorem sum_rows (f : Fin 32768 → EReal) :
    (∑ t : Fin 4, ∑ r : Fin 8192, f ⟨8192 * t.val + r.val, by omega⟩) = ∑ p : Fin 32768, f p := by
  rw [← Fintype.sum_prod_type' (f := fun (t : Fin 4) (r : Fin 8192) => f ⟨8192 * t.val + r.val, by omega⟩),
    ← Equiv.sum_comp (finProdFinEquiv (m := 4) (n := 8192)) f]
  refine Finset.sum_congr rfl fun x _ => congrArg f (Fin.ext ?_)
  simp only [finProdFinEquiv_apply_val]
  omega

/-- The accumulator after the last step holds the pooled sums. -/
theorem accLast_apply (c : Dev nD) (d : Fin 128) (b : Fin 16) :
    accAfter m c last.val last.isLt (ix2 d b) = Cert.Model.pooled (coords m c) (feats m c) (wEnc m c) (bEnc m c) (offs m c) b d :=
  (accAfter_apply m c d b last.val last.isLt).trans (sum_rows (term m c b d))

/-- The kernel's result at `(b, j)` is score `j` of segment `b`. -/
theorem result_apply (c : Dev nD) (b : Fin 16) (j : Fin 55) : Value.G7 m c (ix2 b j)
    = Cert.Model.score (coords m c) (feats m c) (offs m c) (wEnc m c) (bEnc m c) (wCls m c) (bCls m c) b j := by
  rw [result_eq]
  refine (classify_apply _ _ _ _ _ b j).trans ?_
  have hl : lowWord (iblk m c 0 last) b = Cert.Model.lo (offs m c) b := (word_eq _ _ _).trans (blk0 m c last _)
  have hu : upWord (iblk m c 0 last) b = Cert.Model.hi (offs m c) b := (word_eq _ _ _).trans (blk0 m c last _)
  unfold Cert.Model.score
  refine congrArg₂ (· + ·) (Finset.sum_congr rfl fun d _ => ?_) (blk6 m c last j)
  rw [accLast_apply, row_apply, row_apply, hl, hu, blk5]
  rfl

end Cert.KernelIdeal.Block
-- ==== Proof.Segments.lean ====
module

public import proofs.«01_k».proof.Proof.Model
public import Mathlib.Data.Nat.Count

/-! Finding a row's segment by counting.

With offsets that start at or below zero and never decrease, the number of later offsets at or below a row is the
number of the segment the row lies in. -/

@[expose] public section

open Idealize.ShloMosaic Idealize.ShloMosaic.ValueIdx

namespace Cert.Model

/-- The offsets start at or below zero and never decrease. -/
def Sorted (off : Offs) : Prop :=
  (lo off 0).toInt ≤ 0 ∧ ∀ b : Fin 16, (lo off b).toInt ≤ (hi off b).toInt

/-- Offset `n` as an integer (zero past the last). -/
def offAt (off : Offs) (n : ℕ) : ℤ := if h : n < 17 then (off (ix1 (⟨n, h⟩ : Fin 17))).toInt else 0

/-- Where segment `b` starts, by number. -/
theorem offAt_lo (off : Offs) (b : Fin 16) : offAt off b.val = (lo off b).toInt := by
  have h : b.val < 17 := by omega
  unfold offAt lo
  rw [dif_pos h]

/-- Where segment `b` ends, by number. -/
theorem offAt_hi (off : Offs) (b : Fin 16) : offAt off (b.val + 1) = (hi off b).toInt := by
  have h : b.val + 1 < 17 := by omega
  unfold offAt hi
  rw [dif_pos h]

/-- Sorted offsets do not decrease between any two numbers. -/
theorem Sorted.mono {off : Offs} (h : Sorted off) {a b : ℕ} (hab : a ≤ b) (hb : b ≤ 16) : offAt off a ≤ offAt off b := by
  induction b, hab using Nat.le_induction with
  | base => exact le_refl _
  | succ n hn ih =>
    refine (ih (by omega)).trans ?_
    have := h.2 ⟨n, by omega⟩
    rwa [← offAt_lo, ← offAt_hi] at this

/-- A property that holds of exactly the numbers below `n`, among those below `m`, is counted `n` times. -/
theorem count_initial (P : ℕ → Prop) [DecidablePred P] {n m : ℕ} (hnm : n ≤ m) (h : ∀ k < m, P k ↔ k < n) : Nat.count P m = n := by
  rw [Nat.count_eq_card_filter_range]
  have e : (Finset.range m).filter P = Finset.range n := by
    ext k
    simp only [Finset.mem_filter, Finset.mem_range]
    constructor
    · rintro ⟨hk, hp⟩
      exact (h k hk).1 hp
    · intro hk
      exact ⟨by omega, (h k (by omega)).2 hk⟩
  rw [e, Finset.card_range]

/-- **The count of later offsets at or below a row is `b` exactly when the row lies in segment `b`.** -/
theorem count_eq_iff {off : Offs} (h : Sorted off) (p : Fin 32768) (b : Fin 16) :
    Nat.count (fun k => offAt off (k + 1) ≤ (p.val : ℤ)) 16 = b.val ↔ inSeg off b p := by
  unfold inSeg
  rw [← offAt_lo, ← offAt_hi]
  have hb := b.isLt
  constructor
  · intro hc
    constructor
    · by_contra hlt
      have h0 : b.val ≠ 0 := by
        intro e
        have := h.1
        rw [← offAt_lo] at this
        rw [e] at hlt
        exact hlt (this.trans (by omega))
      have hle : Nat.count (fun k => offAt off (k + 1) ≤ (p.val : ℤ)) 16 ≤ b.val - 1 := by
        rw [Nat.count_eq_card_filter_range]
        refine (Finset.card_le_card (t := Finset.range (b.val - 1)) fun k hk => ?_).trans (Finset.card_range _).le
        simp only [Finset.mem_filter, Finset.mem_range] at hk ⊢
        by_contra hge
        have := h.mono (a := b.val) (b := k + 1) (by omega) (by omega)
        omega
      omega
    · by_contra hge
      have hle : b.val + 1 ≤ Nat.count (fun k => offAt off (k + 1) ≤ (p.val : ℤ)) 16 := by
        rw [Nat.count_eq_card_filter_range]
        refine (Finset.card_range (b.val + 1)).ge.trans (Finset.card_le_card fun k hk => ?_)
        simp only [Finset.mem_filter, Finset.mem_range] at hk ⊢
        have := h.mono (a := k + 1) (b := b.val + 1) (by omega) (by omega)
        exact ⟨by omega, by omega⟩
      omega
  · rintro ⟨hl, hu⟩
    refine count_initial _ (by omega) fun k hk => ?_
    constructor
    · intro hp
      by_contra hge
      have := h.mono (a := b.val + 1) (b := k + 1) (by omega) (by omega)
      omega
    · intro hkb
      have := h.mono (a := k + 1) (b := b.val) (by omega) (by omega)
      omega

end Cert.Model
-- ==== Proof.Reference.lean ====
module

public import proofs.«01_k».proof.Proof.Gen.ReferenceIdeal.Run
public import proofs.«01_k».proof.Proof.Segments
public import Idealize.ShloMosaic.Lib.StackMember
public import Idealize.ShloMosaic.Lib.IdealHost
public import Idealize.ShloMosaic.Lib.Routing.Ops
public import Idealize.ShloMosaic.Lib.Routing.OpsPair

/-! The reference's result over the extended reals, read at an index. -/

@[expose] public section

noncomputable section

open Idealize.ShloMosaic Idealize.ShloMosaic.TcCoe Idealize.ShloMosaic.ValueIdx Idealize.SL.Sem
open Idealize.ShloMosaic.Routing (bc0 bcCol bcRows bcCols slice1 reduce_count resultIdx?_ix2)
open scoped BigOperators

namespace Cert.ReferenceIdeal.Meaning

open Cert.ReferenceIdeal Cert.ReferenceIdeal.Gen

/-- The number the reference gives each row: how many of the later offsets are at or below it. -/
def segIds (off : IVec S17 32) : IVec S32768 32 :=
  Host.reduce IntOp.addi (extui 32 (cmpi .sle
      (broadcastInDim S32768x16 ![0, 1] bcast_S1x16_S32768x16_0_1 (broadcastInDim S1x16 ![1] bcast_S16_S1x16_1 (extractStridedSlice S16 ![1] off slices_S17_S16_1)))
      (broadcastInDim S32768x16 ![0, 1] bcast_S32768x1_S32768x16_0_1 (broadcastInDim S32768x1 ![0] bcast_S32768_S32768x1_0 (iotaInDim S32768 32 0)))) natLt_1_32)
    (constantI S_ 32 0#32) reducesTo_S32768x16_S32768_d1 h_S_

/-- The embedded points. -/
def hidden (x0 : FVec Ideal S32768x3 .f32) (x1 : FVec Ideal S32768x64 .f32) (x3 : FVec Ideal S67x128 .f32) (x4 : FVec Ideal S128 .f32) :
    FVec Ideal S32768x128 .f32 :=
  maximumf (addf (Host.dotGeneral dot_S32768x67_S67x128_S32768x128_1_0_0_1_n_n none
      (concatenate S32768x67 1 [⟨S32768x3, x0⟩, ⟨S32768x64, x1⟩] concatenates_S32768x3_S32768x64_S32768x67_d1) x3)
      (broadcastInDim S32768x128 ![0, 1] bcast_S1x128_S32768x128_0_1 (broadcastInDim S1x128 ![1] bcast_S128_S1x128_1 x4)))
    (broadcastInDim S32768x128 ![] bcast_S_S32768x128 (constant S_ .f32 0x00000000#32))

/-- The pooled sums: each row added to the segment of its number. -/
def sums (ids : IVec S32768 32) (h : FVec Ideal S32768x128 .f32) : FVec Ideal S16x128 .f32 :=
  Host.scatterAdd scatter_S16x128_S32768x1_S32768x128_1_0_0_1 (broadcastInDim S16x128 ![] bcast_S_S16x128 (constant S_ .f32 0x00000000#32))
    (broadcastInDim S32768x1 ![0] bcast_S32768_S32768x1_0 ids) h

/-- The segments' lengths, at least one. -/
def counts (off : IVec S17 32) : FVec Ideal S16 .f32 :=
  maximumf (sitofp .f32 (subi (extractStridedSlice S16 ![1] off slices_S17_S16_1) (extractStridedSlice S16 ![0] off slices_S17_S16_0)))
    (broadcastInDim S16 ![] bcast_S_S16 (constant S_ .f32 0x3F800000#32))

/-- The reference's result, as a function of its arguments. -/
def result (x0 : FVec Ideal S32768x3 .f32) (x1 : FVec Ideal S32768x64 .f32) (x2 : IVec S17 32) (x3 : FVec Ideal S67x128 .f32)
    (x4 : FVec Ideal S128 .f32) (x5 : FVec Ideal S128x55 .f32) (x6 : FVec Ideal S55 .f32) : FVec Ideal S16x55 .f32 :=
  addf (Host.dotGeneral dot_S16x128_S128x55_S16x55_1_0_0_1_n_n none
      (Host.divf (sums (segIds x2) (hidden x0 x1 x3 x4))
        (broadcastInDim S16x128 ![0, 1] bcast_S16x1_S16x128_0_1 (broadcastInDim S16x1 ![0] bcast_S16_S16x1_0 (counts x2)))) x5)
    (broadcastInDim S16x55 ![0, 1] bcast_S1x55_S16x55_0_1 (broadcastInDim S1x55 ![1] bcast_S55_S1x55_1 x6))

/-- A row's number is the count of the later offsets at or below it. -/
theorem segIds_apply (off : IVec S17 32) (p : Fin 32768) :
    segIds off (ix1 p) = BitVec.ofNat 32 (Nat.count (fun k => Cert.Model.offAt off (k + 1) ≤ (p.val : ℤ)) 16) := by
  unfold segIds
  refine reduce_count (n := 32768) (m := 16) (by decide) _ natLt_1_32 _ h_S_ p _ fun q => ?_
  show IntOp.cmpi .sle _ _ = 1#1 ↔ _
  rw [bcCols, bcRows, slice1 1 off slices_S17_S16_1 q (by omega)]
  have hp : (iotaInDim S32768 32 0 (ix1 p)).toInt = (p.val : ℤ) := WordCmp.toInt_ofNat_of_lt (a := p.val) (by have := p.isLt; omega)
  have hq : 1 + q.val = q.val + 1 := Nat.add_comm _ _
  have h17 : q.val + 1 < 17 := by omega
  unfold Cert.Model.offAt
  rw [dif_pos h17, ← hp]
  simp only [hq, IntOp.cmpi, StableHlo.Predicate.ofBool_eq_one_iff, BitVec.sle, decide_eq_true_eq]

/-- An embedded point's component. -/
theorem hidden_apply (x0 : FVec Ideal S32768x3 .f32) (x1 : FVec Ideal S32768x64 .f32) (x3 : FVec Ideal S67x128 .f32) (x4 : FVec Ideal S128 .f32)
    (p : Fin 32768) (d : Fin 128) : hidden x0 x1 x3 x4 (ix2 p d) = Cert.Model.point x0 x1 x3 x4 p d := by
  unfold hidden Cert.Model.point
  rw [maximumf_apply, addf_apply, bcCols, bc0]
  refine congrArg₂ max (congrArg (· + x4 (ix1 d)) ?_) Ideal.ofBits_zero_f32
  refine (StackMember.dotGeneral_plain_apply (m := 32768) (k := 67) (n := 128) none _ x3 p d).trans ?_
  rw [Fin.sum_univ_add (a := 3) (b := 64)]
  refine congrArg₂ (· + ·) (Finset.sum_congr rfl fun k _ => ?_) (Finset.sum_congr rfl fun k _ => ?_)
  · refine congrArg (· * x3 (ix2 (Fin.castAdd 64 k) d)) ?_
    refine concatenate_pair_apply_left (t := S32768x67) (s₁ := S32768x3) (s₂ := S32768x64) 1 x0 x1 _ _ rfl (ix2 p k) fun a => ?_
    match a with
    | ⟨0, _⟩ => rfl
    | ⟨1, _⟩ => rfl
  · refine congrArg (· * x3 (ix2 (Fin.natAdd 3 k) d)) ?_
    refine concatenate_pair_apply_right (t := S32768x67) (s₁ := S32768x3) (s₂ := S32768x64) 1 x0 x1 _ _ rfl rfl (ix2 p k) (fun a ha => ?_) ?_
    · match a with
      | ⟨0, _⟩ => rfl
      | ⟨1, _⟩ => exact absurd rfl ha
    · show k.val + 3 = 3 + k.val
      omega

/-- Where a row's component lands: at the segment numbered by the row's word, same component. -/
theorem lands (ids : IVec S32768x1 32) (p : Fin 32768) (d' : Fin 128) (b : Fin 16) (d : Fin 128) :
    scatter_S16x128_S32768x1_S32768x128_1_0_0_1.resultIdx? (ix2 p d') ids = some (ix2 b d)
      ↔ (ids (ix2 p (0 : Fin 1))).toInt = (b.val : ℤ) ∧ d' = d := by
  rw [resultIdx?_ix2]
  have h0 : scatter_S16x128_S32768x1_S32768x128_1_0_0_1.start (ix2 p d') ids 0 = (ids (ix2 p (0 : Fin 1))).toInt := by
    refine congrArg (fun i => (ids i).toInt) (funext fun a => Fin.ext ?_)
    match a with
    | ⟨0, _⟩ => rfl
    | ⟨1, _⟩ => rfl
  have h1 : scatter_S16x128_S32768x1_S32768x128_1_0_0_1.start (ix2 p d') ids 1 = 0 := rfl
  have w0 : scatter_S16x128_S32768x1_S32768x128_1_0_0_1.window (ix2 p d') 0 = 0 := rfl
  have w1 : scatter_S16x128_S32768x1_S32768x128_1_0_0_1.window (ix2 p d') 1 = d'.val := rfl
  rw [h0, h1, w0, w1, Fin.ext_iff]
  omega

/-- A pooled sum: the rows whose word is the segment's number. -/
theorem sums_apply (ids : IVec S32768 32) (h : FVec Ideal S32768x128 .f32) (b : Fin 16) (d : Fin 128) :
    sums ids h (ix2 b d) = ∑ p : Fin 32768, if (ids (ix1 p)).toInt = (b.val : ℤ) then h (ix2 p d) else 0 := by
  show Ideal.hostScatterAdd _ _ _ _ _ = _
  unfold Ideal.hostScatterAdd
  rw [bc0]
  refine (congrArg (· + _) Ideal.ofBits_zero_f32).trans ((zero_add _).trans ?_)
  rw [Finset.sum_filter, sum_idx2]
  refine Finset.sum_congr rfl fun p _ => ?_
  have hb : broadcastInDim S32768x1 ![0] bcast_S32768_S32768x1_0 ids (ix2 p (0 : Fin 1)) = ids (ix1 p) := bcCol bcast_S32768_S32768x1_0 ids p
  simp only [lands, hb]
  rw [Finset.sum_eq_single d]
  · simp
  · intro d' _ hd
    simp [hd]
  · intro hd
    exact absurd (Finset.mem_univ d) hd

/-- A segment's divisor. -/
theorem counts_apply (off : IVec S17 32) (b : Fin 16) : counts off (ix1 b) = Cert.Model.size off b := by
  unfold counts Cert.Model.size Cert.Model.lo Cert.Model.hi
  rw [maximumf_apply, bc0, sitofp_apply]
  refine congrArg₂ max ?_ Ideal.ofBits_one_f32
  show (((extractStridedSlice S16 ![1] off slices_S17_S16_1 (ix1 b) - extractStridedSlice S16 ![0] off slices_S17_S16_0 (ix1 b)).toInt : ℝ) : EReal) = _
  rw [slice1 1 off slices_S17_S16_1 b (by omega), slice1 0 off slices_S17_S16_0 b (by omega)]
  simp only [Nat.zero_add, Nat.add_comm 1]

/-- **The reference's result at `(b, j)` is score `j` of segment `b`, for sorted offsets.** -/
theorem result_apply (x0 : FVec Ideal S32768x3 .f32) (x1 : FVec Ideal S32768x64 .f32) (x2 : IVec S17 32) (x3 : FVec Ideal S67x128 .f32)
    (x4 : FVec Ideal S128 .f32) (x5 : FVec Ideal S128x55 .f32) (x6 : FVec Ideal S55 .f32) (hs : Cert.Model.Sorted x2) (b : Fin 16) (j : Fin 55) :
    result x0 x1 x2 x3 x4 x5 x6 (ix2 b j) = Cert.Model.score x0 x1 x2 x3 x4 x5 x6 b j := by
  unfold result Cert.Model.score
  rw [addf_apply, bcCols]
  refine congrArg (· + x6 (ix1 j)) ?_
  refine (StackMember.dotGeneral_plain_apply (m := 16) (k := 128) (n := 55) none _ x5 b j).trans (Finset.sum_congr rfl fun d _ => ?_)
  refine congrArg (· * x5 (ix2 d j)) ?_
  rw [hostDivf_apply, bcRows, counts_apply, sums_apply]
  refine congrArg (Ideal.div · (Cert.Model.size x2 b)) ?_
  unfold Cert.Model.pooled
  refine Finset.sum_congr rfl fun p _ => if_congr ?_ (hidden_apply x0 x1 x3 x4 p d) rfl
  rw [segIds_apply, ← Cert.Model.count_eq_iff hs p b]
  have hc := Nat.count_le (p := fun k => Cert.Model.offAt x2 (k + 1) ≤ (p.val : ℤ)) (n := 16)
  rw [WordCmp.toInt_ofNat_of_lt (by omega)]
  omega

end Cert.ReferenceIdeal.Meaning
-- ==== Proof.Precondition.lean ====
module

public import proofs.«01_k».proof.Proof.Gen.Pre_offsets_sorted
public import proofs.«01_k».proof.Proof.Segments
public import Idealize.ShloMosaic.Lib.ReduceAll
public import Idealize.ShloMosaic.Lib.Affine
public import Idealize.ShloMosaic.Lib.Routing.Ops

/-! What the precondition says of the offsets. -/

@[expose] public section

open Idealize.ShloMosaic Idealize.ShloMosaic.ValueIdx

namespace Cert.Pre_offsets_sorted.Meaning

open Cert.Pre_offsets_sorted Facts

variable [Facts] {F : FTy → Type} [FloatOps F]

/-- A result shape of rank zero has one index. -/
instance : Subsingleton S_.Idx := ⟨fun _ _ => funext fun a => a.elim0⟩

/-- The precondition holds only of offsets that start at or below zero and never decrease. -/
theorem sorted (x0 : FVec F S32768x3 .f32) (x1 : FVec F S32768x64 .f32) (x2 : IVec S17 32) (x3 : FVec F S67x128 .f32)
    (x4 : FVec F S128 .f32) (x5 : FVec F S128x55 .f32) (x6 : FVec F S55 .f32) (h : fn x0 x1 x2 x3 x4 x5 x6 = fun _ => 1#1) :
    Cert.Model.Sorted x2 := by
  have h0 := congrFun h ix0
  unfold fn at h0
  dsimp only at h0
  obtain ⟨ha, hb⟩ := IntOp.andi_eq_one.1 h0
  constructor
  · have e := IntOp.cmpi_sle.1 ha
    have ex : shapeCast S_ (extractStridedSlice S1 ![0] x2 slices_S17_S1_0) shapeCasts_S1_S_ ix0 = Cert.Model.lo x2 0 := by
      have one : ∀ i : S1.Idx, extractStridedSlice S1 ![0] x2 slices_S17_S1_0 i = Cert.Model.lo x2 0 := fun i => by
        refine congrArg x2 (funext fun a => Fin.ext ?_)
        match a with
        | ⟨0, _⟩ =>
          show 0 + (i 0).val = 0
          have : (i 0).val < 1 := (i 0).isLt
          omega
      exact one _
    rw [ex] at e
    exact e
  · intro b
    have e := IntOp.cmpi_sle.1 (Host.reduce_andi_all _ _ _ _ ix0 hb (ix1 b))
    rw [Routing.slice1 0 x2 slices_S17_S16_0 b (by omega), Routing.slice1 1 x2 slices_S17_S16_1 b (by omega)] at e
    simp only [Nat.zero_add, Nat.add_comm 1] at e
    exact e

end Cert.Pre_offsets_sorted.Meaning
-- ==== Proof.lean ====
module

public import proofs.«01_k».proof.Defs
public import proofs.«01_k».proof.Proof.Gen.Kernel.Frame
public import proofs.«01_k».proof.Proof.Gen.KernelIdeal.Value
public import proofs.«01_k».proof.Proof.Total
public import proofs.«01_k».proof.Proof.Reference
public import proofs.«01_k».proof.Proof.Precondition
public import Idealize.ShloMosaic.Adequacy
public import Idealize.ShloMosaic.Init
public import Idealize.ShloMosaic.Lib.Quiescent

/-! The proof of the claims.

Both programs' results are read at an index as the same function of the arguments, `Cert.Model.score`: the kernel's
in `Proof/Total.lean`, for every input, and the reference's in `Proof/Reference.lean`, for sorted offsets. -/

@[expose] public section

noncomputable section

namespace Cert.Proof

open Idealize.ShloMosaic Idealize.SL.Sem

/-- The reference leaves its arguments as they were and its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of the inputs the precondition admits. -/
theorem quiescent_ReferenceIdeal_pre_offsets_sorted : quiescent_ReferenceIdeal_pre_offsets_sorted := fun m ρ _ =>
  quiescent_ReferenceIdeal m ρ trivial

/-- For sorted offsets, the reference's function of the kernel's arguments is what the kernel leaves. -/
theorem equation (m : (ℓ : Loc Cert.KernelIdeal.nD Cert.KernelIdeal.τ Cert.KernelIdeal.sig) → Buf (Elt Ideal) ℓ)
    (h : Pre_KernelIdeal_offsets_sorted m) (c : Dev Cert.KernelIdeal.nD) :
    Cert.ReferenceIdeal.Meaning.result (Cert.KernelIdeal.Block.coords m c) (Cert.KernelIdeal.Block.feats m c) (Cert.KernelIdeal.Block.offs m c)
      (Cert.KernelIdeal.Block.wEnc m c) (Cert.KernelIdeal.Block.bEnc m c) (Cert.KernelIdeal.Block.wCls m c) (Cert.KernelIdeal.Block.bCls m c)
      = Cert.KernelIdeal.Value.G7 m c := by
  funext i
  rw [ValueIdx.eq_ix2 i]
  exact (Cert.ReferenceIdeal.Meaning.result_apply _ _ _ _ _ _ _ (Cert.Pre_offsets_sorted.Meaning.sorted _ _ _ _ _ _ _ (h c)) (i 0) (i 1)).trans
    (Cert.KernelIdeal.Block.result_apply m c (i 0) (i 1)).symm

/-- Over the extended reals, from equal arguments with sorted offsets, the kernel and the reference leave equal results. -/
theorem algebraic_KernelIdeal_ReferenceIdeal_pre_offsets_sorted : algebraic_KernelIdeal_ReferenceIdeal_pre_offsets_sorted := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6⟩ := hagree c
  refine (h c).1.trans (Eq.trans ?_ (equation m hpre c))
  rw [e0, e1, e2, e3, e4, e5, e6]
  unfold Cert.ReferenceIdeal.Meaning.result Cert.ReferenceIdeal.Meaning.sums Cert.ReferenceIdeal.Meaning.segIds
    Cert.ReferenceIdeal.Meaning.hidden Cert.ReferenceIdeal.Meaning.counts
  rfl

/-- All the claims. -/
theorem claim : Cert.Claim := ⟨Cert.Kernel.Gen.facts, Cert.KernelIdeal.Gen.facts, Cert.ReferenceIdeal.Gen.facts, Cert.Pre_offsets_sorted.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_offsets_sorted, (trivial : preserves_Kernel_KernelIdeal),
  algebraic_KernelIdeal_ReferenceIdeal_pre_offsets_sorted⟩

end Cert.Proof

end
